-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x128 : Shape := ⟨2, ![128, 128]⟩
abbrev S4096x4096 : Shape := ⟨2, ![4096, 4096]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩
abbrev S4096x32 : Shape := ⟨2, ![4096, 32]⟩
abbrev S256x32 : Shape := ⟨2, ![256, 32]⟩
abbrev S1x256x1 : Shape := ⟨3, ![1, 256, 1]⟩
abbrev S1 : Shape := ⟨1, ![1]⟩
abbrev S1x1x1 : Shape := ⟨3, ![1, 1, 1]⟩
abbrev S32x32 : Shape := ⟨2, ![32, 32]⟩
abbrev S32x4096 : Shape := ⟨2, ![32, 4096]⟩

abbrev nBuf : Space → Nat
  | .hbm => 7
  | .vmem => 14
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S128x128, .f32⟩
  | .hbm, ⟨3, _⟩ => ⟨S128x128, .f32⟩
  | .hbm, ⟨4, _⟩ => ⟨S4096x128, .f32⟩
  | .hbm, ⟨5, _⟩ => ⟨S4096x128, .f32⟩
  | .hbm, ⟨6, _⟩ => ⟨S4096x4096, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128x128, .f32⟩
  | .local _ .vmem, ⟨4, _⟩ => ⟨S4096x128, .f32⟩
  | .local _ .vmem, ⟨5, _⟩ => ⟨S4096x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4096x128, .f32⟩
  | .local _ .vmem, ⟨11, _⟩ => ⟨S4096x128, .f32⟩
  | .local _ .vmem, ⟨12, _⟩ => ⟨S256x4096, .f32⟩
  | .local _ .vmem, ⟨13, _⟩ => ⟨S256x4096, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := .none

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S4096x128 : Shape := ⟨2, ![4096, 128]⟩
abbrev S128x128 : Shape := ⟨2, ![128, 128]⟩
abbrev S_ : Shape := ⟨0, ![]⟩
abbrev S128x4096 : Shape := ⟨2, ![128, 4096]⟩
abbrev S4096x4096 : Shape := ⟨2, ![4096, 4096]⟩
abbrev S4096x20 : Shape := ⟨2, ![4096, 20]⟩
abbrev S4096 : Shape := ⟨1, ![4096]⟩
abbrev S4096x1 : Shape := ⟨2, ![4096, 1]⟩
abbrev S4096x20x1 : Shape := ⟨3, ![4096, 20, 1]⟩
abbrev S4096x20x2 : Shape := ⟨3, ![4096, 20, 2]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S128x128, .f32⟩
  | .hbm, ⟨3, _⟩ => ⟨S128x128, .f32⟩
  | .hbm, ⟨4, _⟩ => ⟨S4096x128, .f32⟩
  | .hbm, ⟨5, _⟩ => ⟨S_, .f32⟩
  | .hbm, ⟨6, _⟩ => ⟨S4096x128, .f32⟩
  | .hbm, ⟨7, _⟩ => ⟨S4096x128, .f32⟩
  | .hbm, ⟨8, _⟩ => ⟨S4096x128, .f32⟩
  | .hbm, ⟨9, _⟩ => ⟨S4096x128, .f32⟩
  | .hbm, ⟨10, _⟩ => ⟨S_, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S128x4096, .f32⟩
  | .hbm, ⟨15, _⟩ => ⟨S4096x4096, .f32⟩
  | .hbm, ⟨16, _⟩ => ⟨S128x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x20, .f32⟩
  | .hbm, ⟨27, _⟩ => ⟨S4096x20, .i32⟩
  | .hbm, ⟨28, _⟩ => ⟨S_, .f32⟩
  | .hbm, ⟨29, _⟩ => ⟨S4096x4096, .f32⟩
  | .hbm, ⟨30, _⟩ => ⟨S4096, .i32⟩
  | .hbm, ⟨31, _⟩ => ⟨S4096x1, .i32⟩
  | .hbm, ⟨32, _⟩ => ⟨S_, .i32⟩
  | .hbm, ⟨33, _⟩ => ⟨S4096x1, .i32⟩
  | .hbm, ⟨34, _⟩ => ⟨S4096x1, .i1⟩
  | .hbm, ⟨35, _⟩ => ⟨S_, .i32⟩
  | .hbm, ⟨36, _⟩ => ⟨S4096x1, .i32⟩
  | .hbm, ⟨37, _⟩ => ⟨S4096x1, .i32⟩
  | .hbm, ⟨38, _⟩ => ⟨S4096x1, .i32⟩
  | .hbm, ⟨39, _⟩ => ⟨S_, .i32⟩
  | .hbm, ⟨40, _⟩ => ⟨S4096x20, .i32⟩
  | .hbm, ⟨41, _⟩ => ⟨S4096x20, .i1⟩
  | .hbm, ⟨42, _⟩ => ⟨S_, .i32⟩
  | .hbm, ⟨43, _⟩ => ⟨S4096x20, .i32⟩
  | .hbm, ⟨44, _⟩ => ⟨S4096x20, .i32⟩
  | .hbm, ⟨45, _⟩ => ⟨S4096x20, .i32⟩
  | .hbm, ⟨46, _⟩ => ⟨S4096x20, .i32⟩
  | .hbm, ⟨47, _⟩ => ⟨S4096x20x1, .i32⟩
  | .hbm, ⟨48, _⟩ => ⟨S4096x20x1, .i32⟩
  | .hbm, ⟨49, _⟩ => ⟨S4096x20x2, .i32⟩
  | .hbm, ⟨50, _⟩ => ⟨S_, .f32⟩
  | .hbm, ⟨51, _⟩ => ⟨S4096x20, .f32⟩
  | .hbm, ⟨52, _⟩ => ⟨S4096x4096, .f32⟩
  | .hbm, ⟨53, _⟩ => ⟨S4096x4096, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S4096x4096, .f32⟩
  | .hbm, ⟨61, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_values : Ref sig .tc := ⟨.hbm, 26, rfl⟩
abbrev main_indices : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]
-- ==== Proof.IdealRun.lean ====
/- The run of `Cert.KernelIdeal`: what each pallas_call leaves in its output buffers, the buffers after each call, and the
   whole run from any memory: it ends, nothing faulting, the arguments as they were, every semaphore counter at zero,
   the result at what the second call's write-backs leave. The set-up of the launch follows the library's generated form. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S4096x128 := Rect.unit (s := S4096x128) ![0, 0] S4096x128.size inb_S4096x128_S4096x128_0_0
abbrev r0_1 : Rect S128x128 := Rect.unit (s := S128x128) ![0, 0] S128x128.size inb_S128x128_S128x128_0_0

def out0_4 (x0 : Vec F S4096x128 .f32) (x1 : Vec F S4096x128 .f32) (x2 : Vec F S128x128 .f32) (x3 : Vec F S128x128 .f32) : Vec F S4096x128 .f32 :=
  View.canon [⟨r0_0, k0_pay1 (View.ld x0 r0_0) (View.ld x2 r0_1)⟩]

theorem cover0_4 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

def out0_5 (x0 : Vec F S4096x128 .f32) (x1 : Vec F S4096x128 .f32) (x2 : Vec F S128x128 .f32) (x3 : Vec F S128x128 .f32) : Vec F S4096x128 .f32 :=
  View.canon [⟨r0_0, k0_pay2 (View.ld x1 r0_0) (View.ld x3 r0_1)⟩]

theorem cover0_5 (p0 : Vec F S4096x128 .f32) (y : S4096x128.Idx) :
    ∃ pc ∈ ([⟨r0_0, p0⟩] : List (View.Piece (Elt F) S4096x128 .f32)), y ∈ pc.1.set :=
  View.cover_of_tiled [⟨r0_0, p0⟩] S4096x128.size (by rfl) y

set_option maxHeartbeats 1000000 in
theorem sound_kernel0 (c : Dev nD) (E : Set ℕ) (arg0 : Memref sig .tc .vmem S4096x128 .f32) (harg0 : arg0.IsWhole) (arg1 : Memref sig .tc .vmem S4096x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S4096x128 .f32) (harg4 : arg4.IsWhole) (arg5 : Memref sig .tc .vmem S4096x128 .f32) (harg5 : arg5.IsWhole)
    (x0 : Vec F S4096x128 .f32) (x1 : Vec F S4096x128 .f32) (x2 : Vec F S128x128 .f32) (x3 : Vec F S128x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out0_4 x0 x1 x2 x3) ∗ owns (c : Thread nD τ) arg5 fullShare (out0_5 x0 x1 x2 x3)) -∗ K ⟨⟩))
      ⊢ wp frame (wpE (defs₀ (F := F)) Variants.none c none) E (cc0__embed_kernel arg0 harg0 arg1 harg1 arg2 harg2 arg3 harg3 arg4 harg4 arg5 harg5) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S256x128 := Rect.unit (s := S256x128) ![0, 0] S256x128.size inb_S256x128_S256x128_0_0
abbrev r1_1 : Rect S4096x128 := Rect.unit (s := S4096x128) ![0, 0] S4096x128.size inb_S4096x128_S4096x128_0_0
abbrev r1_2 : Rect S256x4096 := Rect.unit (s := S256x4096) ![0, 0] S256x4096.size inb_S256x4096_S256x4096_0_0

/-- The entries of a block's scores before any row is cut, from the two row blocks and the two whole arrays. -/
def scores (x0 : Vec F S256x128 .f32) (x1 : Vec F S256x128 .f32) (x2 : Vec F S4096x128 .f32) (x3 : Vec F S4096x128 .f32) : FVec F S256x4096 .f32 :=
  k1_pay36 (View.ld x0 r1_0) (View.ld x3 r1_1) (View.ld x1 r1_0) (View.ld x2 r1_1)

/-- Each row's largest score. -/
def rowMax (a : FVec F S256x4096 .f32) : FVec F S256x1 .f32 :=
  shapeCast S256x1 (multiReduction .maximumf [1] S256 a 0xFF800000#32 reduces_S256x4096_S256 (.inl rfl) rfl) shapeCasts_S256_S256x1

/-- Which scores equal their row's largest, as ones and zeros. -/
def atMax (a : FVec F S256x4096 .f32) : FVec F S256x4096 .f32 :=
  sitofp .f32 (extui 32 (cmpf .oeq a (broadcastTo S256x4096 (rowMax a) broadcasts_S256x1_S256x4096)) natLt_1_32)

/-- How often the largest score occurs in each stretch of 128 columns of a row. -/
def perChunk (a : FVec F S256x4096 .f32) : FVec F S256x32 .f32 := k1_pay2 (atMax a) k1_pay39 k1_pay40 k1_pay41

/-- Whether every row of the block has its largest score at least twenty times. -/
def plenty (a : FVec F S256x4096 .f32) : BitVec 1 :=
  Scalar.cmpf .ogt (k1_pay3 (atMax a) k1_pay39 k1_pay40 k1_pay41) (Scalar.ofBits .f32 0x00000000#32)

/-- The columns kept when every row has its largest score at least twenty times: its first twenty occurrences. -/
def firstTwenty (a : FVec F S256x4096 .f32) : IVec S256x4096 1 :=
  k1_pay23 (atMax a) (k1_pay6 (k1_pay1 (F := F) k1_pay39 k1_pay40 k1_pay41) (perChunk a)) (k1_pay7 (F := F))
    (k1_pay8 (atMax a)) (k1_pay9 (atMax a)) (k1_pay10 (atMax a)) (k1_pay11 (atMax a)) (k1_pay12 (atMax a))
    (k1_pay13 (atMax a)) (k1_pay14 (atMax a)) (k1_pay15 (atMax a)) (k1_pay16 (atMax a)) (k1_pay17 (atMax a))
    (k1_pay18 (atMax a)) (k1_pay19 (atMax a)) (k1_pay20 (atMax a)) (k1_pay21 (atMax a)) (k1_pay22 (atMax a))

/-- The column numbers of a block. -/
abbrev cols : IVec S256x4096 32 := iota .tc S256x4096 32 [1] iota_S256x4096_d1_w32
/-- The block after eight picks, -/
def picked8 (a : FVec F S256x4096 .f32) : FVec F S256x4096 .f32 := k1_pay26 cols (k1_pay24 a) (k1_pay25 a)
/-- after twelve, -/
def picked12 (a : FVec F S256x4096 .f32) : FVec F S256x4096 .f32 :=
  k1_pay29 cols (picked8 a) (k1_pay27 cols (k1_pay24 a) (k1_pay25 a)) k1_pay28
/-- after fifteen -/
def picked15 (a : FVec F S256x4096 .f32) : FVec F S256x4096 .f32 :=
  k1_pay31 cols (picked12 a) (k1_pay30 cols (picked8 a) (k1_pay27 cols (k1_pay24 a) (k1_pay25 a)) k1_pay28)
/-- and what the sixteenth pick starts from. -/
def top16 (a : FVec F S256x4096 .f32) : IVec S256x4096 1 :=
  k1_pay32 cols (picked12 a) (k1_pay30 cols (picked8 a) (k1_pay27 cols (k1_pay24 a) (k1_pay25 a)) k1_pay28)

/-- What the block stores: the quick way when every row has plenty of its largest score, else by twenty picks. -/
def outBlock (a : FVec F S256x4096 .f32) : FVec F S256x4096 .f32 :=
  if plenty a = 1#1 then k1_pay4 (rowMax a) (firstTwenty a)
  else k1_pay5 a cols (k1_pay34 cols (picked15 a) (top16 a) (k1_pay33 (F := F)))
    (k1_pay35 cols (picked15 a) (top16 a) (k1_pay33 (F := F)))

/-- Window 4's staging buffer after the body, from the four input blocks. -/
def out1_4 (x0 : Vec F S256x128 .f32) (x1 : Vec F S256x128 .f32) (x2 : Vec F S4096x128 .f32) (x3 : Vec F S4096x128 .f32) : Vec F S256x4096 .f32 :=
  View.canon [⟨r1_2, outBlock (scores x0 x1 x2 x3)⟩]

theorem cover1_4 (p0 : Vec F S256x4096 .f32) (y : S256x4096.Idx) :
    ∃ pc ∈ ([⟨r1_2, p0⟩] : List (View.Piece (Elt F) S256x4096 .f32)), y ∈ pc.1.set :=
  View.cover_of_tiled [⟨r1_2, p0⟩] S256x4096.size (by rfl) y

/-- A one-bit flag widened and compared with zero is on when the flag is, -/
theorem flag_on (b : BitVec 1) (h : b = 1#1) : Scalar.cmpi .ne (Scalar.extui b : BitVec 32) 0#32 = 1#1 := by
  subst h; decide
/-- its complement is on when it is off, -/
theorem flag_not (b : BitVec 1) (h : ¬ b = 1#1) : Scalar.cmpi .ne (Scalar.extui (Scalar.xori b 1#1) : BitVec 32) 0#32 = 1#1 := by
  have h0 : b = 0#1 := by revert h; revert b; decide
  subst h0; decide
/-- and only then. -/
theorem flag_off (b : BitVec 1) (e : Scalar.cmpi .ne (Scalar.extui (Scalar.xori b 1#1) : BitVec 32) 0#32 = 1#1) : ¬ b = 1#1 := by
  rintro rfl; revert e; decide

set_option maxHeartbeats 1000000 in
theorem sound_kernel1 (c : Dev nD) (E : Set ℕ) (i : grid1.Coords) (arg1 : Memref sig .tc .vmem S256x128 .f32) (harg1 : arg1.IsWhole) (arg2 : Memref sig .tc .vmem S256x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S256x4096 .f32) (harg5 : arg5.IsWhole)
    (x0 : Vec F S256x128 .f32) (x1 : Vec F S256x128 .f32) (x2 : Vec F S4096x128 .f32) (x3 : Vec F S4096x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__topk_kernel i arg1 harg1 arg2 harg2 arg3 harg3 arg4 harg4 arg5 harg5) K := by
  simp only [cc1__topk_kernel_eq_skeleton]; unfold cc1__topk_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  by_cases h : plenty (scores (arg1.view.read (Elt F) f0) (arg2.view.read (Elt F) f1) (arg3.view.read (Elt F) f2) (arg4.view.read (Elt F) f3)) = 1#1
  · refine (congrArg (View.read (Elt F) arg5.view) ((dif_neg ?_).trans (dif_pos ?_))).trans ?_
    · exact fun e => flag_off _ e h
    · exact flag_on _ h
    · exact (View.read_writes_eq_canon _ _ _ (cover1_4 _)).trans (by rw [out1_4, outBlock, if_pos h]; rfl)
  · refine (congrArg (View.read (Elt F) arg5.view) (dif_pos ?_)).trans ?_
    · exact flag_not _ h
    · exact (View.read_writes_eq_canon _ _ _ (cover1_4 _)).trans (by rw [out1_4, outBlock, if_neg h]; rfl)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

abbrev argRefs : List (Ref sig .tc) := [main_arg0, main_arg1, main_arg2, main_arg3]

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev V0 : (c : Dev nD) → (b : Ref sig .tc) → Buf (Elt F) ((c : Thread nD τ).loc b) := fun c b => W0 m ρ c b
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact (dat1 (V1 m ρ) c).withArrays_arrAt launch₀1.sharedIn _ (A_eq1 (V1 m ρ) c) w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
theorem ran : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v1) = (dat1 (V1 m ρ) c).arrAt 4 cfg1.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨(fun c =>
      ⟨(h c _ (mem_uc main_arg0 (by decide))).trans (W2_args m ρ c main_arg0 (by decide)),
       (h c _ (mem_uc main_arg1 (by decide))).trans (W2_args m ρ c main_arg1 (by decide)),
       (h c _ (mem_uc main_arg2 (by decide))).trans (W2_args m ρ c main_arg2 (by decide)),
       (h c _ (mem_uc main_arg3 (by decide))).trans (W2_args m ρ c main_arg3 (by decide)),
       (h c _ (mem_uc main_v1 (by decide))).trans (W2_arr m ρ c 4)⟩), funext fun g => hz g (.inr (no_unscoped g.2))⟩)

end Cert.KernelIdeal.Run

end
-- ==== Proof.Ranking.lean ====
/- The twenty greatest entries of a row, in three spellings. A row is `a : Fin n → E` over a linear order. `place a j` counts
   the entries that come before entry `j` when the row is put in descending order with equal entries left in the order of
   their positions. A stable descending sort puts at position `k` the entry whose place is `k` (`place_sortedFrom`). Marking
   the leftmost greatest entry again and again marks the entries in the order of their places (`place_first_max`). Where the
   greatest value occurs often enough, the entries of small place are its leftmost occurrences (`place_lt_iff_of_many`). -/
module

public import Idealize.ShloMosaic.Lib.SortPrefix

@[expose] public section

namespace Cert.Ranking

open Idealize.ShloMosaic

variable {n : ℕ} {E : Type} [LinearOrder E] (a : Fin n → E)

/-- Entry `i` comes before entry `j` in the stable descending order. -/
def Before (i j : Fin n) : Prop := a j < a i ∨ (a i = a j ∧ i < j)

instance : DecidableRel (Before a) := fun i j => inferInstanceAs (Decidable (a j < a i ∨ (a i = a j ∧ i < j)))

theorem Before.irrefl (i : Fin n) : ¬ Before a i i := by
  rintro (h | ⟨-, h⟩) <;> exact lt_irrefl _ h

theorem Before.trans {i j k : Fin n} (h : Before a i j) (h' : Before a j k) : Before a i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem before_or_before {i j : Fin n} (h : i ≠ j) : Before a i j ∨ Before a j i := by
  rcases lt_trichotomy (a i) (a j) with l | e | g
  · exact .inr (.inl l)
  · rcases lt_or_gt_of_ne h with l | g
    · exact .inl (.inr ⟨e, l⟩)
    · exact .inr (.inr ⟨e.symm, g⟩)
  · exact .inl (.inl g)

/-- How many entries come before entry `j`. -/
def place (j : Fin n) : ℕ := (Finset.univ.filter fun i => Before a i j).card

theorem place_lt_place {i j : Fin n} (h : Before a i j) : place a i < place a j := by
  refine Finset.card_lt_card ⟨fun k hk => ?_, fun hs => ?_⟩
  · simp only [Finset.mem_filter, Finset.mem_univ, true_and] at hk ⊢
    exact hk.trans a h
  · have : i ∈ Finset.univ.filter fun k => Before a k i := hs (by simpa using h)
    exact Before.irrefl a i (by simpa using this)

theorem before_of_place_lt {i j : Fin n} (h : place a i < place a j) : Before a i j := by
  have hne : i ≠ j := fun e => by rw [e] at h; exact lt_irrefl _ h
  rcases before_or_before a hne with hb | hb
  · exact hb
  · exact absurd (place_lt_place a hb) (by omega)

theorem place_injective : Function.Injective (place a) := by
  intro i j h
  by_contra hne
  rcases before_or_before a hne with hb | hb <;> have := place_lt_place a hb <;> omega

theorem place_lt (j : Fin n) : place a j < n := by
  have : place a j < (Finset.univ : Finset (Fin n)).card := by
    refine Finset.card_lt_card ⟨Finset.filter_subset _ _, fun hs => ?_⟩
    have := hs (Finset.mem_univ j)
    exact Before.irrefl a j (by simpa using this)
  simpa using this

/-- Every place below `n` is some entry's. -/
theorem exists_place {k : ℕ} (hk : k < n) : ∃ j, place a j = k := by
  have hinj : Function.Injective fun j : Fin n => (⟨place a j, place_lt a j⟩ : Fin n) :=
    fun i j h => place_injective a (by simpa using h)
  obtain ⟨j, hj⟩ := (Finite.injective_iff_surjective.mp hinj) ⟨k, hk⟩
  exact ⟨j, by simpa using congrArg Fin.val hj⟩

/-- As many entries have a place below `k` as there are places. -/
theorem card_place_lt {k : ℕ} (hk : k ≤ n) : (Finset.univ.filter fun j => place a j < k).card = k := by
  have himg : (Finset.univ.filter fun j => place a j < k).image (place a) = Finset.range k := by
    ext p
    simp only [Finset.mem_image, Finset.mem_filter, Finset.mem_univ, true_and, Finset.mem_range]
    constructor
    · rintro ⟨j, h, rfl⟩; exact h
    · intro h
      obtain ⟨j, rfl⟩ := exists_place a (Nat.lt_of_lt_of_le h hk)
      exact ⟨j, h, rfl⟩
  rw [← Finset.card_image_of_injective _ (place_injective a), himg, Finset.card_range]

/-! ## The stable sort -/

/-- Over a list of increasing positions, sorting by the entries alone is sorting by the entries and then the positions. -/
theorem stableSort_eq_before (l : List (Fin n)) (hl : l.Pairwise (· < ·)) :
    stableSort (fun i j => decide (a j < a i)) l = stableSort (fun i j => decide (Before a i j)) l := by
  induction l with
  | nil => rfl
  | cons p l ih =>
    obtain ⟨hp, hl'⟩ := List.pairwise_cons.mp hl
    unfold stableSort
    rw [ih hl']
    refine insertBefore_congr _ _ p _ fun b hb => ?_
    have hpb : p < b := hp b ((perm_stableSort _ l).mem_iff.mp hb)
    refine decide_eq_decide.mpr ⟨.inl, ?_⟩
    rintro (h | ⟨-, h⟩)
    · exact h
    · exact absurd h (lt_asymm hpb)

theorem strictTotal_before : StrictTotalBefore fun i j => decide (Before a i j) where
  irrefl i := by simpa using Before.irrefl a i
  trans i j k h h' := by simp only [decide_eq_true_eq] at *; exact h.trans a h'
  total i j h := by simp only [decide_eq_true_eq]; exact before_or_before a h

/-- The stable descending sort puts at position `k` the entry whose place is `k`. -/
theorem place_sortedFrom (k : Fin n) : place a (sortedFrom (fun i j => decide (a j < a i)) k) = k.val := by
  have e : sortedFrom (fun i j => decide (a j < a i)) k = sortedFrom (fun i j => decide (Before a i j)) k := by
    unfold sortedFrom
    exact List.get_of_eq (stableSort_eq_before a _ (List.pairwise_lt_finRange n)) _
  choose σ hσ using fun k : Fin n => exists_place a k.isLt
  have h := (strictTotal_before a).sortedFrom_eq_of_prefix (le_refl n) σ
    (fun i j hij => Fin.ext (by rw [← hσ i, ← hσ j, hij]))
    (fun i j hij => decide_eq_false fun hb => by
      have := place_lt_place a hb
      rw [hσ, hσ] at this
      exact absurd hij (by simpa using this.le))
    (fun i p hp => absurd (place_injective a (hσ ⟨place a p, place_lt a p⟩)) (hp _)) k
  rw [e, show k = Fin.castLE (le_refl n) k from rfl, h, hσ]
  rfl

/-! ## Marking the leftmost greatest entry, again and again -/

/-- The row with its first `k` entries of the order replaced by `v`. -/
def marked (v : E) (k : ℕ) (j : Fin n) : E := if place a j < k then v else a j

theorem marked_zero (v : E) : marked a v 0 = a := by
  funext j
  simp [marked]

/-- With `v` below every entry, the leftmost greatest entry of the row so marked is the entry of place `k`. -/
theorem place_first_max {v : E} (hv : ∀ j, v < a j) {k : ℕ} (hk : k < n) {p : Fin n}
    (hmax : ∀ j, marked a v k j ≤ marked a v k p) (hleft : ∀ j, marked a v k j = marked a v k p → p ≤ j) : place a p = k := by
  obtain ⟨q, hq⟩ := exists_place a hk
  have eq : marked a v k q = a q := if_neg (by omega)
  have hp : ¬ place a p < k := fun h => by
    have := hmax q
    rw [eq, marked, if_pos h] at this
    exact absurd (hv q) (not_lt.mpr this)
  have ep : marked a v k p = a p := if_neg hp
  by_contra hne
  rcases before_of_place_lt a (i := q) (j := p) (by omega) with h | ⟨h, h'⟩
  · exact absurd (hmax q) (by rw [eq, ep]; exact not_le.mpr h)
  · exact absurd (hleft q (by rw [eq, ep, h])) (not_le.mpr h')

/-- Marking the entry of place `k` as well. -/
theorem marked_succ (v : E) {k : ℕ} {p : Fin n} (hp : place a p = k) (j : Fin n) :
    (if j = p then v else marked a v k j) = marked a v (k + 1) j := by
  unfold marked
  by_cases h : j = p
  · rw [if_pos h, if_pos (by rw [h]; omega)]
  · have : place a j ≠ k := fun e => h (place_injective a (e.trans hp.symm))
    rw [if_neg h]
    exact if_congr (by omega) rfl rfl

/-! ## The greatest value occurring often enough -/

variable {a}

/-- Up to entry `j`, the greatest value occurs one time more than `j`'s place, where entry `j` has it. -/
theorem card_le_eq_place_succ {m : E} (hm : ∀ i, a i ≤ m) {j : Fin n} (hj : a j = m) :
    (Finset.univ.filter fun i => a i = m ∧ i ≤ j).card = place a j + 1 := by
  have : (Finset.univ.filter fun i => a i = m ∧ i ≤ j) = insert j (Finset.univ.filter fun i => Before a i j) := by
    ext i
    simp only [Finset.mem_filter, Finset.mem_univ, true_and, Finset.mem_insert, Before, hj]
    constructor
    · rintro ⟨e, h⟩
      rcases h.eq_or_lt with h | h
      · exact .inl h
      · exact .inr (.inr ⟨e, h⟩)
    · rintro (rfl | h | ⟨e, h⟩)
      · exact ⟨hj, le_refl _⟩
      · exact absurd h (not_lt.mpr (hm i))
      · exact ⟨e, h.le⟩
  rw [this, Finset.card_insert_of_notMem (by simpa using Before.irrefl a j)]
  rfl

/-- Where the greatest value `m` occurs `k` times or more, the entries of place below `k` are its `k` leftmost occurrences. -/
theorem place_lt_iff_of_many {m : E} (hm : ∀ i, a i ≤ m) {k : ℕ} (hk : k ≤ (Finset.univ.filter fun i => a i = m).card) (j : Fin n) :
    place a j < k ↔ a j = m ∧ (Finset.univ.filter fun i => a i = m ∧ i ≤ j).card ≤ k := by
  by_cases hj : a j = m
  · rw [card_le_eq_place_succ hm hj]
    exact ⟨fun h => ⟨hj, h⟩, fun h => h.2⟩
  · refine ⟨fun h => absurd h (not_lt.mpr (hk.trans (Finset.card_le_card fun i hi => ?_))), fun h => absurd h.1 hj⟩
    simp only [Finset.mem_filter, Finset.mem_univ, true_and] at hi ⊢
    exact .inl (by rw [hi]; exact lt_of_le_of_ne (hm j) hj)

end Cert.Ranking
-- ==== Proof.Spec.lean ====
/- What the program computes, over the extended reals and over plain functions of rows and columns: the two embeddings, the
   similarity of two rows, and a row cut to its twenty greatest entries and scaled by their sum. -/
module

public import Idealize.ShloMosaic.PureOps.Ideal
public import proofs.«01_k».proof.Proof.Ranking

@[expose] public section

noncomputable section

namespace Cert.Spec

open Idealize.ShloMosaic Cert.Ranking

/-- The scale inside each hyperbolic tangent, three. -/
def three : EReal := Ideal.ofBits .f32 0x40400000#32
/-- What is added to a row's sum before dividing. -/
def eps : EReal := Ideal.ofBits .f32 0x358637BD#32

/-- One embedding: the hyperbolic tangent of three times a matrix product. -/
def embed (x : Fin 4096 → Fin 128 → EReal) (w : Fin 128 → Fin 128 → EReal) (r : Fin 4096) (k : Fin 128) : EReal :=
  Ideal.tanh (three * ∑ l : Fin 128, x r l * w l k)

/-- The similarity of row `r` to row `j`: the positive part of the hyperbolic tangent of three times the difference of two
    products. -/
def sim (p q : Fin 4096 → Fin 128 → EReal) (r j : Fin 4096) : EReal :=
  max (Ideal.tanh (three * ((∑ k : Fin 128, p r k * q j k) - ∑ k : Fin 128, q r k * p j k))) 0

/-- A row with every entry but its twenty greatest replaced by zero. -/
def kept (a : Fin 4096 → EReal) (j : Fin 4096) : EReal := if place a j < 20 then a j else 0

/-- The kept entries over their sum. -/
def scaled (a : Fin 4096 → EReal) (j : Fin 4096) : EReal := Ideal.div (kept a j) ((∑ i, kept a i) + eps)

theorem sim_nonneg (p q : Fin 4096 → Fin 128 → EReal) (r j : Fin 4096) : 0 ≤ sim p q r j := le_max_right _ _

end Cert.Spec

end
-- ==== Proof.Slow.lean ====
/- The branch of the kernel that picks twenty entries of each row one after another: each pick is the leftmost of the row's
   greatest remaining entries, and is overwritten by minus one. -/
module

public import proofs.«01_k».proof.Proof.IdealRun
public import proofs.«01_k».proof.Proof.Spec
public import Idealize.ShloMosaic.Lib.Pointwise
public import Idealize.ShloMosaic.Lib.SortNet.Extract

@[expose] public section

set_option maxRecDepth 16384

noncomputable section

namespace Cert.KernelIdeal.Slow

open Cert.KernelIdeal Cert.KernelIdeal.Gen Cert.KernelIdeal.Run Idealize.ShloMosaic Idealize.ShloMosaic.TcCoe
open Cert.Ranking Cert.Spec

section Terms
variable {F : FTy → Type} [FloatOps F]

/-- A column repeated along the rows. -/
def spread {α : Type} (v : S256x1.Idx → α) : S256x4096.Idx → α := broadcastTo S256x4096 v broadcasts_S256x1_S256x4096
/-- Where a row equals its entry of a column. -/
def topMask (w : FVec F S256x4096 .f32) (v : FVec F S256x1 .f32) : IVec S256x4096 1 := cmpf .oeq w (spread v)
/-- The least column at which a row of flags is set. -/
def leftmost (b : IVec S256x4096 1) : IVec S256x1 32 :=
  shapeCast S256x1 (multiReductionI .minsi [1] S256 (select b cols (broadcast S256x4096 4096#32)) 2147483647#32
    reduces_S256x4096_S256 rfl) shapeCasts_S256_S256x1
/-- The flag of one column in each row. -/
def only (p : IVec S256x1 32) : IVec S256x4096 1 := cmpi .eq cols (spread p)
/-- The entries under a flag overwritten by minus one. -/
def strike (b : IVec S256x4096 1) (w : FVec F S256x4096 .f32) : FVec F S256x4096 .f32 :=
  select b (broadcast S256x4096 (Scalar.ofBits .f32 0xBF800000#32)) w
/-- The column of each row's leftmost greatest entry. -/
def pick (w : FVec F S256x4096 .f32) : IVec S256x1 32 := leftmost (topMask w (rowMax w))
/-- One step: each row's leftmost greatest entry overwritten. -/
def mark (w : FVec F S256x4096 .f32) : FVec F S256x4096 .f32 := strike (only (pick w)) w
/-- The overwritten entries' first values, zeros elsewhere. -/
def taken (a w : FVec F S256x4096 .f32) : FVec F S256x4096 .f32 :=
  select (cmpf .olt w (broadcast S256x4096 (Scalar.ofBits .f32 0x00000000#32))) a (broadcast S256x4096 (Scalar.ofBits .f32 0x00000000#32))

theorem pay24_eq (a : FVec F S256x4096 .f32) : k1_pay24 a = mark (mark (mark a)) := rfl
theorem pay25_eq (a : FVec F S256x4096 .f32) : k1_pay25 a = pick (k1_pay24 a) := rfl
theorem pay26_eq (w : FVec F S256x4096 .f32) (p : IVec S256x1 32) :
    k1_pay26 cols w p = mark (mark (mark (strike (only p) w))) := rfl
theorem pay27_eq (w : FVec F S256x4096 .f32) (p : IVec S256x1 32) :
    k1_pay27 cols w p = topMask (k1_pay26 cols w p) (rowMax (k1_pay26 cols w p)) := rfl
theorem pay29_eq (w : FVec F S256x4096 .f32) (b : IVec S256x4096 1) :
    k1_pay29 cols w b k1_pay28 = mark (mark (mark (strike (only (leftmost b)) w))) := rfl
theorem pay30_eq (w : FVec F S256x4096 .f32) (b : IVec S256x4096 1) :
    k1_pay30 cols w b k1_pay28 = rowMax (k1_pay29 cols w b k1_pay28) := rfl
theorem pay31_eq (w : FVec F S256x4096 .f32) (v : FVec F S256x1 .f32) :
    k1_pay31 cols w v = mark (mark (strike (only (leftmost (topMask w v))) w)) := rfl
theorem pay32_eq (w : FVec F S256x4096 .f32) (v : FVec F S256x1 .f32) :
    k1_pay32 cols w v = only (pick (k1_pay31 cols w v)) := rfl
theorem pay34_eq (w : FVec F S256x4096 .f32) (b : IVec S256x4096 1) :
    k1_pay34 cols w b k1_pay33 = mark (mark (mark (strike b w))) := rfl
theorem pay35_eq (w : FVec F S256x4096 .f32) (b : IVec S256x4096 1) :
    k1_pay35 cols w b k1_pay33 = pick (k1_pay34 cols w b k1_pay33) := rfl

end Terms

/-- The rows' sums, floored, under a block of entries. -/
def overSums (B : FVec Ideal S256x4096 .f32) : FVec Ideal S256x4096 .f32 :=
  divf B (spread (addf (shapeCast S256x1 (multiReduction .add [1] S256 B 0x00000000#32 reduces_S256x4096_S256 (.inl rfl) rfl) shapeCasts_S256_S256x1)
    (broadcast S256x1 (Scalar.ofBits .f32 0x358637BD#32))))

theorem pay5_eq (a w : FVec Ideal S256x4096 .f32) (p : IVec S256x1 32) :
    k1_pay5 a cols w p = overSums (taken a (mark (strike (only p) w))) := rfl

/-- The mark, minus one. -/
def minusOne : EReal := Ideal.ofBits .f32 0xBF800000#32

theorem minusOne_neg : minusOne < 0 := by
  have : minusOne = ((-(1 : ℝ) : ℝ) : EReal) := by
    simp [minusOne, Ideal.ofBits, Ideal.ieee, -EReal.coe_mul, -EReal.coe_neg]; norm_num
  rw [this]
  exact EReal.coe_neg'.mpr (by norm_num)

theorem ofBits_lowest : Ideal.ofBits .f32 0xFF800000#32 = ⊥ := by simp [Ideal.ofBits, Ideal.ieee]

/-- One row of a block. -/
def row (w : FVec Ideal S256x4096 .f32) (r : Fin 256) (j : Fin 4096) : EReal := w (ix2 r j)

/-! ## The greatest entry of a row and its leftmost column -/

theorem rowMax_fold (w : FVec Ideal S256x4096 .f32) (r : Fin 256) :
    rowMax w (ix2 r 0) = Finset.univ.fold max (Ideal.ofBits .f32 0xFF800000#32) (row w r) := by
  pointwise [rowMax]
  rfl

/-- A row's largest entry bounds the row. -/
theorem le_rowMax (w : FVec Ideal S256x4096 .f32) (r : Fin 256) (j : Fin 4096) : row w r j ≤ rowMax w (ix2 r 0) := by
  rw [rowMax_fold]
  exact Finset.le_fold_max _ |>.mpr (.inr ⟨j, Finset.mem_univ j, le_refl _⟩)

/-- A row's largest entry is one of the row. -/
theorem exists_rowMax (w : FVec Ideal S256x4096 .f32) (r : Fin 256) : ∃ p, row w r p = rowMax w (ix2 r 0) := by
  obtain ⟨p, -, hp⟩ := Finset.exists_max_image (Finset.univ : Finset (Fin 4096)) (row w r) ⟨0, Finset.mem_univ 0⟩
  refine ⟨p, le_antisymm (le_rowMax w r p) ?_⟩
  rw [rowMax_fold, ofBits_lowest]
  exact Finset.fold_max_le _ |>.mpr ⟨bot_le, hp⟩

/-- The signed least of a family of words from a bound is a given number once the number is attained and bounds all. -/
theorem fold_minsi_eq {ι : Type} [Fintype ι] (g : ι → BitVec 32) (b c : BitVec 32) (hb : c.toInt ≤ b.toInt)
    (hg : ∀ i, c.toInt ≤ (g i).toInt) (hc : ∃ i, g i = c) : Finset.univ.fold IntOp.minsi b g = c := by
  have e : (Finset.univ.fold IntOp.minsi b g).toInt = Finset.univ.fold min b.toInt (fun i => (g i).toInt) :=
    (Finset.fold_hom (f := g) (s := Finset.univ) (b := b) (m := BitVec.toInt) SortNet.toInt_minsi).symm
  obtain ⟨p, rfl⟩ := hc
  refine BitVec.eq_of_toInt_eq (e.trans (le_antisymm ?_ ?_))
  · exact Finset.fold_min_le _ |>.mpr (.inr ⟨p, Finset.mem_univ p, le_refl _⟩)
  · exact Finset.le_fold_min _ |>.mpr ⟨hb, fun i _ => hg i⟩

theorem toInt_col (j : Fin 4096) : (BitVec.ofNat 32 j.val).toInt = j.val := by
  have := j.isLt
  rw [BitVec.toInt_ofNat']
  simp only [Int.bmod_def]
  omega

theorem leftmost_apply (b : IVec S256x4096 1) (r : Fin 256) (p : Fin 4096) (hp : b (ix2 r p) = 1#1)
    (hleft : ∀ j, b (ix2 r j) = 1#1 → p ≤ j) : leftmost b (ix2 r 0) = BitVec.ofNat 32 p.val := by
  pointwise [leftmost, cols]
  have hlt := p.isLt
  refine fold_minsi_eq _ _ _ ?_ (fun j => ?_) ⟨p, by rw [hp]; rfl⟩
  · rw [toInt_col, show (2147483647#32 : BitVec 32).toInt = 2147483647 by decide]
    omega
  · by_cases h : b (ix2 r j) = 1#1
    · rw [Scalar.select_of_eq_one h, toInt_col, toInt_col]
      exact_mod_cast hleft j h
    · rw [Scalar.select_of_ne_one h, toInt_col, show (4096#32 : BitVec 32).toInt = 4096 by decide]
      omega

theorem topMask_apply (w : FVec Ideal S256x4096 .f32) (v : FVec Ideal S256x1 .f32) (r : Fin 256) (j : Fin 4096) :
    topMask w v (ix2 r j) = 1#1 ↔ row w r j = v (ix2 r 0) := by
  rw [show topMask w v (ix2 r j) = Ideal.cmp .oeq (row w r j) (v (ix2 r 0)) by pointwise [topMask, spread, row]]
  exact Ideal.cmp_oeq_eq_one _ _

theorem only_apply (p : IVec S256x1 32) (r : Fin 256) (q : Fin 4096) (hq : p (ix2 r 0) = BitVec.ofNat 32 q.val) (j : Fin 4096) :
    only p (ix2 r j) = 1#1 ↔ j = q := by
  rw [show only p (ix2 r j) = IntOp.cmpi .eq (BitVec.ofNat 32 j.val) (p (ix2 r 0)) by pointwise [only, spread, cols], hq]
  have hj := j.isLt
  have hq := q.isLt
  constructor
  · intro h
    have e : BitVec.ofNat 32 j.val = BitVec.ofNat 32 q.val := by
      by_contra hne
      have : IntOp.cmpi .eq (BitVec.ofNat 32 j.val) (BitVec.ofNat 32 q.val) = 0#1 := by
        show BitVec.ofBool (BitVec.ofNat 32 j.val == BitVec.ofNat 32 q.val) = 0#1
        rw [beq_eq_false_iff_ne.mpr hne]
        rfl
      rw [this] at h
      exact absurd h (by decide)
    have := congrArg BitVec.toInt e
    rw [toInt_col, toInt_col] at this
    exact Fin.ext (by exact_mod_cast this)
  · rintro rfl
    simp [IntOp.cmpi]

theorem strike_apply (b : IVec S256x4096 1) (w : FVec Ideal S256x4096 .f32) (r : Fin 256) (j : Fin 4096) :
    strike b w (ix2 r j) = Scalar.select (b (ix2 r j)) minusOne (row w r j) := by
  pointwise [strike, minusOne, row]

/-! ## The picks -/

/-- One step overwrites the leftmost of the row's greatest entries. -/
theorem mark_apply (w : FVec Ideal S256x4096 .f32) (r : Fin 256) : ∃ p, (∀ j, row w r j ≤ row w r p) ∧
    (∀ j, row w r j = row w r p → p ≤ j) ∧ ∀ j, row (mark w) r j = if j = p then minusOne else row w r j := by
  obtain ⟨q, hq⟩ := exists_rowMax w r
  obtain ⟨p, hp, hleft⟩ := Finset.exists_min_image (Finset.univ.filter fun j => row w r j = rowMax w (ix2 r 0)) id
    ⟨q, by simpa using hq⟩
  simp only [Finset.mem_filter, Finset.mem_univ, true_and, id] at hp hleft
  have hpick : pick w (ix2 r 0) = BitVec.ofNat 32 p.val :=
    leftmost_apply _ r p ((topMask_apply w _ r p).mpr hp) fun j hj => hleft j ((topMask_apply w _ r j).mp hj)
  refine ⟨p, fun j => hp ▸ le_rowMax w r j, fun j hj => hleft j (hj.trans hp), fun j => ?_⟩
  refine (strike_apply (only (pick w)) w r j).trans ?_
  by_cases h : j = p
  · rw [Scalar.select_of_eq_one ((only_apply _ r p hpick j).mpr h), if_pos h]
  · rw [Scalar.select_of_ne_one (fun e => h ((only_apply _ r p hpick j).mp e)), if_neg h]

/-- After `k` steps each row has its first `k` entries of the order overwritten. -/
theorem marks_apply (a : FVec Ideal S256x4096 .f32) (r : Fin 256) (ha : ∀ j, 0 ≤ row a r j) (k : ℕ) (hk : k ≤ 4096) :
    row (mark^[k] a) r = marked (row a r) minusOne k := by
  induction k with
  | zero => exact (marked_zero _ _).symm
  | succ k ih =>
    have ih := ih (by omega)
    rw [Function.iterate_succ_apply']
    obtain ⟨p, hmax, hleft, hmark⟩ := mark_apply (mark^[k] a) r
    rw [ih] at hmax hleft hmark
    have hp := place_first_max (row a r) (fun j => lt_of_lt_of_le minusOne_neg (ha j)) (by omega) hmax hleft
    exact funext fun j => (hmark j).trans (marked_succ _ _ hp j)

/-- The branch's twenty steps. -/
theorem slow_eq (a : FVec Ideal S256x4096 .f32) :
    k1_pay5 a cols (k1_pay34 cols (picked15 a) (top16 a) k1_pay33) (k1_pay35 cols (picked15 a) (top16 a) k1_pay33)
      = overSums (taken a (mark^[20] a)) := by
  have h7 : picked8 a = mark^[7] a := by rw [picked8, pay25_eq, pay26_eq, pay24_eq]; simp only [Function.iterate_succ_apply', Function.iterate_zero_apply, mark]
  have h11 : picked12 a = mark^[11] a := by
    rw [picked12, pay29_eq, pay27_eq, ← picked8, h7]; simp only [Function.iterate_succ_apply', mark, pick]
  have h14 : picked15 a = mark^[14] a := by
    rw [picked15, pay31_eq, pay30_eq, ← picked12, h11]; simp only [Function.iterate_succ_apply', mark, pick]
  have h15 : top16 a = only (pick (mark^[14] a)) := by
    rw [top16, pay32_eq, ← picked15, h14]
  rw [pay35_eq, pay5_eq, pay34_eq, h15, h14]
  simp only [Function.iterate_succ_apply', mark]

theorem taken_apply (a w : FVec Ideal S256x4096 .f32) (r : Fin 256) (j : Fin 4096) :
    row (taken a w) r j = if row w r j < 0 then row a r j else 0 := by
  pointwise [taken, row]

theorem overSums_apply (B : FVec Ideal S256x4096 .f32) (r : Fin 256) (j : Fin 4096) :
    overSums B (ix2 r j) = Ideal.div (row B r j) ((∑ i, row B r i) + eps) := by
  pointwise [overSums, spread, eps, row]

/-- The branch's result: each row cut to its twenty greatest entries and scaled by their sum. -/
theorem slow_apply (a : FVec Ideal S256x4096 .f32) (r : Fin 256) (ha : ∀ j, 0 ≤ row a r j) (j : Fin 4096) :
    k1_pay5 a cols (k1_pay34 cols (picked15 a) (top16 a) k1_pay33) (k1_pay35 cols (picked15 a) (top16 a) k1_pay33) (ix2 r j)
      = scaled (row a r) j := by
  have h : row (taken a (mark^[20] a)) r = kept (row a r) := funext fun i => by
    rw [taken_apply, marks_apply a r ha 20 (by norm_num), marked, kept]
    by_cases hi : place (row a r) i < 20
    · rw [if_pos hi, if_pos minusOne_neg, if_pos hi]
    · rw [if_neg hi, if_neg (not_lt.mpr (ha i)), if_neg hi]
  rw [slow_eq, overSums_apply, h, scaled]

end Cert.KernelIdeal.Slow

end
-- ==== Proof.Fast.lean ====
/- The branch of the kernel for a block whose every row has its greatest entry at least twenty times: the entries kept are
   the first twenty of those, found by counting them along the row. -/
module

public import proofs.«01_k».proof.Proof.Slow
public import Idealize.ShloMosaic.Lib.WordCmp
public import Idealize.ShloMosaic.Lib.Routing.Words

@[expose] public section

set_option maxRecDepth 16384

noncomputable section

namespace Cert.KernelIdeal.Fast

open Cert.KernelIdeal Cert.KernelIdeal.Gen Cert.KernelIdeal.Run Cert.KernelIdeal.Slow Idealize.ShloMosaic Idealize.ShloMosaic.TcCoe
open Cert.Ranking Cert.Spec

/-- Which stretch of 128 columns each column lies in, as ones and zeros. -/
def stretch : FVec Ideal S4096x32 .f32 := k1_pay1 k1_pay39 k1_pay40 k1_pay41

theorem slices_stretch : ∀ c : Fin 32, Shape.Slices S256x4096 ![0, 128 * c.val] S256x128 := by decide

/-- The counts within one stretch of columns. -/
def within (e : FVec Ideal S256x4096 .f32) (c : Fin 32) : FVec Ideal S256x128 .f32 :=
  matmul dot_S256x128_S128x128_S256x128_1_0_0_1_n_n none (extractStridedSlice S256x128 ![0, 128 * c.val] e (slices_stretch c))
    k1_pay7 (constant S256x128 .f32 0x00000000#32)

theorem concatenates_within (e : FVec Ideal S256x4096 .f32) :
    Shape.Concatenates ((List.ofFn fun c => (⟨S256x128, within e c⟩ : (s : Shape) × (s.Idx → Ideal .f32))).map (·.1)) S256x4096 1 := by
  rw [List.map_ofFn]
  exact (by decide : Shape.Concatenates (List.ofFn fun _ : Fin 32 => S256x128) S256x4096 1)

/-- Those of all the stretches, side by side. -/
def inner (e : FVec Ideal S256x4096 .f32) : FVec Ideal S256x4096 .f32 :=
  concatenate S256x4096 1 (List.ofFn fun c => ⟨S256x128, within e c⟩) (concatenates_within e)

/-! ## The constants and the tables of ones and zeros -/

/-- Twenty, as a pattern. -/
theorem ofBits_twenty : Ideal.ofBits .f32 0x41A00000#32 = ((20 : ℕ) : EReal) := by
  have : Ideal.ofBits .f32 0x41A00000#32 = ((20 : ℝ) : EReal) := by
    simp [Ideal.ofBits, Ideal.ieee, -EReal.coe_mul]; norm_num
  rw [this]
  rfl

/-- What is added to a sum is positive. -/
theorem eps_pos : 0 < eps := by
  simp [eps, Ideal.ofBits, Ideal.ieee, -EReal.coe_mul]

/-- A flag made a number is one or zero. -/
theorem flag_value (b : Bool) :
    FloatOps.sitofp (F := Ideal) .f32 (BitVec.setWidth 32 (BitVec.ofBool b)) = if b then 1 else 0 := by
  cases b <;> simp [FloatOps.sitofp]

theorem stretch_apply (j : Fin 4096) (c : Fin 32) : stretch (ix2 j c) = if j.val / 128 = c.val then 1 else 0 := by
  pointwise [stretch, k1_pay1, k1_pay39, k1_pay40, k1_pay41]
  have hj := j.isLt
  have hc := c.isLt
  have hs : IntOp.cmpi .sgt (BitVec.ofNat 32 j.val) 0#32 = BitVec.ofBool (decide (0 < j.val)) :=
    WordCmp.cmpi_sgt_ofNat (w := 32) (by omega) (by norm_num)
  have ht : IntOp.cmpi .slt (BitVec.ofNat 32 j.val) 0#32 = BitVec.ofBool (decide (j.val < 0)) :=
    WordCmp.cmpi_slt_ofNat (w := 32) (by omega) (by norm_num)
  have hd : IntOp.divsi .vector (BitVec.ofNat 32 j.val) 128#32 = BitVec.ofNat 32 (j.val / 128) :=
    Routing.divsi_word _ (by omega) (by norm_num) (by norm_num)
  have hm : IntOp.remsi .vector (BitVec.ofNat 32 j.val) 128#32 = BitVec.ofNat 32 (j.val % 128) :=
    Routing.remsi_word _ (by omega) (by norm_num) (by norm_num)
  have hsel : IntOp.andi (IntOp.cmpi .ne (IntOp.subi (BitVec.setWidth 32 (IntOp.cmpi .sgt (BitVec.ofNat 32 j.val) 0#32))
        (BitVec.setWidth 32 (IntOp.cmpi .slt (BitVec.ofNat 32 j.val) 0#32)))
      (Scalar.subi (Scalar.extui (Scalar.cmpi .sgt 128#32 0#32)) (Scalar.extui (Scalar.cmpi .slt 128#32 0#32))))
      (IntOp.cmpi .ne (IntOp.remsi .vector (BitVec.ofNat 32 j.val) 128#32) 0#32) ≠ 1#1 := by
    rw [hs, ht, hm]
    by_cases h0 : j.val = 0
    · rw [h0]; decide
    · rw [decide_eq_true (Nat.pos_of_ne_zero h0), decide_eq_false (Nat.not_lt_zero _)]
      generalize IntOp.cmpi .ne (BitVec.ofNat 32 (j.val % 128)) 0#32 = x
      revert x
      decide
  rw [Scalar.select_of_ne_one hsel, hd, WordCmp.cmpi_eq_ofNat (by omega) (by omega), flag_value]
  exact if_congr decide_eq_true_iff rfl rfl

theorem atMax_apply (a : FVec Ideal S256x4096 .f32) (r : Fin 256) (j : Fin 4096) :
    atMax a (ix2 r j) = if row a r j = rowMax a (ix2 r 0) then 1 else 0 := by
  pointwise [atMax]
  rw [flag_value]
  exact if_congr decide_eq_true_iff rfl rfl

/-! ## Counting -/

/-- A sum of ones where a property holds is how often it holds. -/
theorem sum_flags {ι : Type} [Fintype ι] (P : ι → Prop) [DecidablePred P] :
    (∑ i, if P i then (1 : EReal) else 0) = (((Finset.univ.filter P).card : ℕ) : EReal) :=
  (Finset.natCast_card_filter P Finset.univ).symm

theorem flag_mul (P Q : Prop) [Decidable P] [Decidable Q] :
    ((if P then (1 : EReal) else 0) * if Q then 1 else 0) = if P ∧ Q then 1 else 0 := by
  by_cases hP : P <;> by_cases hQ : Q <;> simp [hP, hQ]

theorem count_mul (n : ℕ) (Q : Prop) [Decidable Q] :
    ((n : EReal) * if Q then 1 else 0) = ((if Q then n else 0 : ℕ) : EReal) := by
  by_cases hQ : Q <;> simp [hQ]

/-- The columns where a row has its greatest entry. -/
abbrev tops (a : FVec Ideal S256x4096 .f32) (r : Fin 256) (j : Fin 4096) : Prop := row a r j = rowMax a (ix2 r 0)

theorem perChunk_apply (a : FVec Ideal S256x4096 .f32) (r : Fin 256) (c : Fin 32) :
    perChunk a (ix2 r c) = (((Finset.univ.filter fun j : Fin 4096 => tops a r j ∧ j.val / 128 = c.val).card : ℕ) : EReal) := by
  rw [show perChunk a (ix2 r c) = ∑ j, atMax a (ix2 r j) * stretch (ix2 j c) by
    rw [perChunk, k1_pay2]
    pointwise
    rfl]
  rw [← sum_flags]
  refine Finset.sum_congr rfl fun j _ => ?_
  rw [atMax_apply, stretch_apply, flag_mul]

/-- The counts of the stretches before a given one add up to the count over all their columns. -/
theorem card_stretches (P : Fin 4096 → Prop) [DecidablePred P] (K : ℕ) :
    (∑ c : Fin 32, if c.val < K then (Finset.univ.filter fun j : Fin 4096 => P j ∧ j.val / 128 = c.val).card else 0)
      = (Finset.univ.filter fun j : Fin 4096 => P j ∧ j.val / 128 < K).card := by
  rw [Finset.card_eq_sum_card_fiberwise (f := fun j : Fin 4096 => (⟨j.val / 128, by omega⟩ : Fin 32)) (t := Finset.univ)
    fun _ _ => Finset.mem_coe.mpr (Finset.mem_univ _)]
  refine Finset.sum_congr rfl fun c _ => ?_
  rw [Finset.filter_filter]
  by_cases h : c.val < K
  · rw [if_pos h]
    refine congrArg Finset.card (Finset.filter_congr fun j _ => ?_)
    rw [Fin.ext_iff]
    constructor
    · rintro ⟨hP, e⟩; exact ⟨⟨hP, by omega⟩, e⟩
    · rintro ⟨⟨hP, -⟩, e⟩; exact ⟨hP, e⟩
  · rw [if_neg h]
    refine (Finset.card_eq_zero.mpr (Finset.filter_eq_empty_iff.mpr fun j _ hj => ?_)).symm
    have e := Fin.ext_iff.mp hj.2
    have := hj.1.2
    simp only at e
    omega

/-- Counting within a column's own stretch is counting over the row's columns of that stretch. -/
theorem card_within (P : Fin 4096 → Prop) [DecidablePred P] (j : Fin 4096) :
    (Finset.univ.filter fun k : Fin 128 => P ⟨128 * (j.val / 128) + k.val, by omega⟩ ∧ k.val ≤ j.val % 128).card
      = (Finset.univ.filter fun i : Fin 4096 => P i ∧ i.val / 128 = j.val / 128 ∧ i ≤ j).card := by
  refine Finset.card_bij (fun k _ => ⟨128 * (j.val / 128) + k.val, by omega⟩) (fun k hk => ?_) (fun k _ l _ e => ?_) (fun i hi => ?_)
  · simp only [Finset.mem_filter, Finset.mem_univ, true_and] at hk ⊢
    exact ⟨hk.1, by omega, Fin.le_def.mpr (by simp only; omega)⟩
  · have := Fin.ext_iff.mp e
    simp only at this
    exact Fin.ext (by omega)
  · simp only [Finset.mem_filter, Finset.mem_univ, true_and] at hi
    obtain ⟨hP, h, hle⟩ := hi
    have hle := Fin.le_def.mp hle
    have e : (⟨128 * (j.val / 128) + i.val % 128, by omega⟩ : Fin 4096) = i := Fin.ext (by simp only; omega)
    refine ⟨⟨i.val % 128, by omega⟩, ?_, e⟩
    simp only [Finset.mem_filter, Finset.mem_univ, true_and]
    exact ⟨by rw [e]; exact hP, by omega⟩

/-- The columns up to a given one, cut at the start of its stretch. -/
theorem card_le_eq (P : Fin 4096 → Prop) [DecidablePred P] (j : Fin 4096) :
    (Finset.univ.filter fun i : Fin 4096 => P i ∧ i.val / 128 < j.val / 128).card
        + (Finset.univ.filter fun i : Fin 4096 => P i ∧ i.val / 128 = j.val / 128 ∧ i ≤ j).card
      = (Finset.univ.filter fun i : Fin 4096 => P i ∧ i ≤ j).card := by
  rw [← Finset.card_union_of_disjoint]
  · refine congrArg Finset.card (Finset.ext fun i => ?_)
    simp only [Finset.mem_union, Finset.mem_filter, Finset.mem_univ, true_and, Fin.le_def]
    constructor
    · rintro (⟨h, h'⟩ | ⟨h, -, h'⟩)
      · exact ⟨h, by omega⟩
      · exact ⟨h, h'⟩
    · rintro ⟨h, h'⟩
      by_cases e : i.val / 128 = j.val / 128
      · exact .inr ⟨h, e, h'⟩
      · exact .inl ⟨h, by omega⟩
  · refine Finset.disjoint_left.mpr fun i hi hi' => ?_
    simp only [Finset.mem_filter, Finset.mem_univ, true_and] at hi hi'
    omega

/-! ## How many greatest entries there are up to a column -/

/-- Those in the stretches before the column's own. -/
theorem before_apply (a : FVec Ideal S256x4096 .f32) (r : Fin 256) (j : Fin 4096) :
    k1_pay6 stretch (perChunk a) (ix2 r j)
      = (((Finset.univ.filter fun i : Fin 4096 => tops a r i ∧ i.val / 128 < j.val / 128).card : ℕ) : EReal) := by
  have e : k1_pay6 stretch (perChunk a) (ix2 r j) = ∑ c : Fin 32, (∑ d : Fin 32, perChunk a (ix2 r d) *
      FloatOps.sitofp (F := Ideal) .f32 (BitVec.setWidth 32 (IntOp.cmpi .slt (BitVec.ofNat 32 d.val) (BitVec.ofNat 32 c.val))))
        * stretch (ix2 j c) := by
    pointwise [k1_pay6]
  have hc : ∀ c : Fin 32, (∑ d : Fin 32, perChunk a (ix2 r d) *
      FloatOps.sitofp (F := Ideal) .f32 (BitVec.setWidth 32 (IntOp.cmpi .slt (BitVec.ofNat 32 d.val) (BitVec.ofNat 32 c.val))))
        = (((Finset.univ.filter fun i : Fin 4096 => tops a r i ∧ i.val / 128 < c.val).card : ℕ) : EReal) := fun c => by
    rw [← card_stretches (tops a r) c.val, Nat.cast_sum]
    refine Finset.sum_congr rfl fun d _ => ?_
    rw [WordCmp.cmpi_slt_ofNat (by omega) (by omega), flag_value, perChunk_apply, ← count_mul]
    exact congrArg _ (if_congr decide_eq_true_iff rfl rfl)
  rw [e, Finset.sum_eq_single (⟨j.val / 128, by omega⟩ : Fin 32) (fun c _ hne => ?_) fun h => absurd (Finset.mem_univ _) h, hc,
    stretch_apply, if_pos rfl, mul_one]
  rw [stretch_apply, if_neg (fun h => hne (Fin.ext h.symm)), mul_zero]

/-- Those in its own. -/
theorem inner_apply (a : FVec Ideal S256x4096 .f32) (r : Fin 256) (j : Fin 4096) :
    inner (atMax a) (ix2 r j)
      = (((Finset.univ.filter fun i : Fin 4096 => tops a r i ∧ i.val / 128 = j.val / 128 ∧ i ≤ j).card : ℕ) : EReal) := by
  have e : inner (atMax a) (ix2 r j) = within (atMax a) ⟨j.val / 128, by omega⟩ (ix2 r (⟨j.val % 128, by omega⟩ : Fin 128)) :=
    concatenate_ofFn_apply (t := S256x4096) 1 (within (atMax a)) (concatenates_within (atMax a)) rfl 128 rfl (ix2 r j) ⟨j.val / 128, by omega⟩ rfl _ rfl fun b hb => by
      match b with
      | ⟨0, _⟩ => rfl
      | ⟨1, _⟩ => exact absurd rfl hb
  have e' : within (atMax a) ⟨j.val / 128, by omega⟩ (ix2 r (⟨j.val % 128, by omega⟩ : Fin 128))
      = ∑ k : Fin 128, atMax a (ix2 r ⟨128 * (j.val / 128) + k.val, by omega⟩) *
        FloatOps.sitofp (F := Ideal) .f32 (BitVec.setWidth 32 (IntOp.cmpi .sle (BitVec.ofNat 32 k.val) (BitVec.ofNat 32 (j.val % 128)))) := by
    pointwise [within, k1_pay7]
  rw [e, e', ← card_within, ← sum_flags]
  refine Finset.sum_congr rfl fun k _ => ?_
  rw [WordCmp.cmpi_sle_ofNat (by omega) (by omega), flag_value, atMax_apply, ← flag_mul]
  exact congrArg _ (if_congr decide_eq_true_iff rfl rfl)

theorem firstTwenty_eq (a : FVec Ideal S256x4096 .f32) :
    firstTwenty a = andi (cmpf .ogt (atMax a) (broadcast S256x4096 (Scalar.ofBits .f32 0x00000000#32)))
      (cmpf .ole (addf (k1_pay6 stretch (perChunk a)) (inner (atMax a))) (broadcast S256x4096 (Scalar.ofBits .f32 0x41A00000#32))) := rfl

theorem andi_flags (p q : Prop) [Decidable p] [Decidable q] :
    IntOp.andi (BitVec.ofBool (decide p)) (BitVec.ofBool (decide q)) = 1#1 ↔ p ∧ q := by
  by_cases hp : p <;> by_cases hq : q <;> simp only [hp, hq, decide_true, decide_false, and_true, and_false, iff_true, iff_false] <;> decide

/-- Two tests at once. -/
theorem both_apply (e n i : FVec Ideal S256x4096 .f32) (r : Fin 256) (j : Fin 4096) :
    andi (cmpf .ogt e (broadcast S256x4096 (Scalar.ofBits .f32 0x00000000#32)))
      (cmpf .ole (addf n i) (broadcast S256x4096 (Scalar.ofBits .f32 0x41A00000#32))) (ix2 r j) = 1#1
      ↔ 0 < e (ix2 r j) ∧ n (ix2 r j) + i (ix2 r j) ≤ ((20 : ℕ) : EReal) := by
  pointwise
  rw [ofBits_twenty]
  exact andi_flags _ _

/-- The entries kept: the first twenty of the row's greatest. -/
theorem firstTwenty_apply (a : FVec Ideal S256x4096 .f32) (r : Fin 256) (j : Fin 4096) :
    firstTwenty a (ix2 r j) = 1#1 ↔ tops a r j ∧ (Finset.univ.filter fun i : Fin 4096 => tops a r i ∧ i ≤ j).card ≤ 20 := by
  rw [firstTwenty_eq, both_apply, before_apply, inner_apply, ← Nat.cast_add, card_le_eq, EReal.natCast_le_iff, atMax_apply]
  refine and_congr_left' ?_
  by_cases h : tops a r j
  · rw [if_pos h]
    exact iff_of_true zero_lt_one h
  · rw [if_neg h]
    exact iff_of_false (lt_irrefl _) h

theorem pay3_fold (e : FVec Ideal S256x4096 .f32) (d : IVec S4096x32 32) (s : IVec S4096x32 1) (m : IVec S4096x32 32) :
    k1_pay3 e d s m = Finset.univ.fold min (Ideal.ofBits .f32 0x7F800000#32) fun x : Fin 256 × Fin 1 =>
      if Ideal.ofBits .f32 0x41A00000#32 ≤ ∑ c : Fin 32, k1_pay2 e d s m (ix2 x.1 c) then (1 : EReal) else 0 := by
  rw [k1_pay3]
  pointwise

theorem pos_of_flag (x : Ideal .f32) (h : Scalar.cmpf .ogt x (Scalar.ofBits .f32 0x00000000#32) = 1#1) : (0 : EReal) < x := by
  have h' : Ideal.cmp .ogt x (Ideal.ofBits .f32 0x00000000#32) = 1#1 := h
  rw [Ideal.ofBits_zero_f32] at h'
  exact (Ideal.cmp_ogt_eq_one _ _).mp h'

/-- Where the branch is taken, every row has its greatest entry at least twenty times. -/
theorem plenty_apply (a : FVec Ideal S256x4096 .f32) (h : plenty a = 1#1) (r : Fin 256) :
    20 ≤ (Finset.univ.filter (tops a r)).card := by
  have h0 : (0 : EReal) < k1_pay3 (atMax a) k1_pay39 k1_pay40 k1_pay41 := by
    rw [plenty] at h
    exact pos_of_flag _ h
  rw [pay3_fold] at h0
  have hr := (Finset.lt_fold_min _).mp h0 |>.2 (r, 0) (Finset.mem_univ _)
  have hle : Ideal.ofBits .f32 0x41A00000#32 ≤ ∑ c : Fin 32, perChunk a (ix2 r c) := by
    by_contra hn
    exact absurd (hr.trans_eq (if_neg hn)) (lt_irrefl _)
  rw [ofBits_twenty, Finset.sum_congr rfl fun c _ => perChunk_apply a r c, ← Nat.cast_sum, EReal.natCast_le_iff] at hle
  have e := card_stretches (tops a r) 32
  rw [Finset.sum_congr rfl fun (c : Fin 32) _ => if_pos c.isLt] at e
  rw [e] at hle
  exact hle.trans (Finset.card_le_card fun j hj => by
    simp only [Finset.mem_filter, Finset.mem_univ, true_and] at hj ⊢
    exact hj.1)

theorem pay4_apply (m : FVec Ideal S256x1 .f32) (b : IVec S256x4096 1) (r : Fin 256) (j : Fin 4096) :
    k1_pay4 m b (ix2 r j) = Scalar.select (b (ix2 r j))
      (Ideal.div (m (ix2 r 0)) (Ideal.ofBits .f32 0x41A00000#32 * m (ix2 r 0) + eps)) 0 := by
  pointwise [k1_pay4, eps]

theorem zero_div_eq (x : EReal) (hx : 0 ≤ x) : Ideal.div 0 (((20 : ℕ) : EReal) * x + eps) = 0 := by
  have h : (0 : EReal) ≤ ((20 : ℕ) : EReal) * x := mul_nonneg (by exact_mod_cast (EReal.natCast_le_iff (m := 0)).mpr (Nat.zero_le 20)) hx
  have hd : ((20 : ℕ) : EReal) * x + eps ≠ 0 := (lt_of_lt_of_le eps_pos (le_add_of_nonneg_left h)).ne'
  rw [Ideal.div, if_neg hd, zero_mul]

/-- The branch's result: each row cut to its twenty greatest entries and scaled by their sum. -/
theorem fast_apply (a : FVec Ideal S256x4096 .f32) (h : plenty a = 1#1) (r : Fin 256) (ha : ∀ j, 0 ≤ row a r j) (j : Fin 4096) :
    k1_pay4 (rowMax a) (firstTwenty a) (ix2 r j) = scaled (row a r) j := by
  have hk : ∀ i, place (row a r) i < 20 ↔ firstTwenty a (ix2 r i) = 1#1 := fun i =>
    (place_lt_iff_of_many (le_rowMax a r) (plenty_apply a h r) i).trans (firstTwenty_apply a r i).symm
  have hkept : ∀ i, kept (row a r) i = if place (row a r) i < 20 then rowMax a (ix2 r 0) else 0 := fun i => by
    unfold kept
    by_cases hi : place (row a r) i < 20
    · rw [if_pos hi, if_pos hi]
      exact ((firstTwenty_apply a r i).mp ((hk i).mp hi)).1
    · rw [if_neg hi, if_neg hi]
  have hsum : (∑ i, kept (row a r) i) = ((20 : ℕ) : EReal) * rowMax a (ix2 r 0) := by
    rw [Finset.sum_congr rfl fun i _ => hkept i, ← Finset.sum_filter, Finset.sum_const, card_place_lt _ (by norm_num),
      EReal.nsmul_eq_mul]
  rw [pay4_apply, scaled, hsum, hkept j, ofBits_twenty]
  by_cases hj : place (row a r) j < 20
  · rw [if_pos hj, Scalar.select_of_eq_one ((hk j).mp hj)]
  · rw [if_neg hj, Scalar.select_of_ne_one fun e => hj ((hk j).mpr e)]
    have hm : 0 ≤ rowMax a (ix2 r 0) := (ha 0).trans (le_rowMax a r 0)
    exact (zero_div_eq _ hm).symm

end Cert.KernelIdeal.Fast

end
-- ==== Proof.IdealValue.lean ====
/- What the kernel leaves in its result, over the extended reals: row by row, the similarities cut to their twenty greatest
   and scaled by their sum. -/
module

public import proofs.«01_k».proof.Proof.Fast
public import Idealize.ShloMosaic.Lib.Pipeline.Value
public import Idealize.ShloMosaic.Lib.Pipeline.ValueKit

@[expose] public section

set_option maxRecDepth 16384

noncomputable section

namespace Cert.KernelIdeal.Rows

open Cert.KernelIdeal Cert.KernelIdeal.Gen Cert.KernelIdeal.Run Cert.KernelIdeal.Slow Cert.KernelIdeal.Fast
open Idealize.ShloMosaic Idealize.ShloMosaic.TcCoe Cert.Ranking Cert.Spec
open Idealize.ShloMosaic.Pipeline (Dat)

/-! ## One block -/

/-- What a block stores, by either branch. -/
theorem outBlock_apply (a : FVec Ideal S256x4096 .f32) (r : Fin 256) (ha : ∀ j, 0 ≤ row a r j) (j : Fin 4096) :
    outBlock a (ix2 r j) = scaled (row a r) j := by
  unfold outBlock
  by_cases h : plenty a = 1#1
  · rw [if_pos h]
    exact fast_apply a h r ha j
  · rw [if_neg h]
    exact slow_apply a r ha j

theorem zeros2 : (![0, 0] : Fin 2 → Nat) = fun _ => 0 := funext fun a => by
  match a with
  | ⟨0, _⟩ => rfl
  | ⟨1, _⟩ => rfl

/-- The scores of a block at an index. -/
theorem scores_apply (x0 x1 : Vec Ideal S256x128 .f32) (x2 x3 : Vec Ideal S4096x128 .f32) (r : Fin 256) (j : Fin 4096) :
    scores x0 x1 x2 x3 (ix2 r j) = max (Ideal.tanh (three * ((∑ k : Fin 128, x0 (ix2 r k) * x3 (ix2 j k))
      - ∑ k : Fin 128, x1 (ix2 r k) * x2 (ix2 j k)))) 0 := by
  unfold scores
  rw [View.ld_unit_zero zeros2, View.ld_unit_zero zeros2, View.ld_unit_zero zeros2, View.ld_unit_zero zeros2]
  pointwise [k1_pay36, three]

theorem pay1_apply (x : FVec Ideal S4096x128 .f32) (w : FVec Ideal S128x128 .f32) (r : Fin 4096) (k : Fin 128) :
    k0_pay1 (F := Ideal) x w (ix2 r k) = embed (fun r l => x (ix2 r l)) (fun l k => w (ix2 l k)) r k := by
  pointwise [k0_pay1, embed, three]

theorem pay2_apply (x : FVec Ideal S4096x128 .f32) (w : FVec Ideal S128x128 .f32) (r : Fin 4096) (k : Fin 128) :
    k0_pay2 (F := Ideal) x w (ix2 r k) = embed (fun r l => x (ix2 r l)) (fun l k => w (ix2 l k)) r k := by
  pointwise [k0_pay2, embed, three]

/-! ## The arrays -/

variable (m : (ℓ : Loc nD τ sig) → Buf (Elt Ideal) ℓ) (ρ : Dev nD → PrngReg)

section Blocks
variable (V : (c : Dev nD) → (b : Ref sig .tc) → Buf (Elt Ideal) ((c : Thread nD τ).loc b))

theorem idx0 : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] := by decide +kernel

theorem idx1 : ∀ t : Fin grid1.N, win1_0.index t = ![t.val, 0] ∧ win1_1.index t = ![t.val, 0] ∧ win1_2.index t = ![0, 0]
    ∧ win1_3.index t = ![0, 0] ∧ win1_4.index t = ![t.val, 0] := by decide +kernel

/-- The first call's blocks are its arrays. -/
theorem iblk0_0 (c : Dev nD) (t : Fin cfg0.N) : iblk0 V c 0 t = V c main_arg0 := by
  funext y
  have h := idx0 t
  blk_ext [iblk0, h]
theorem iblk0_1 (c : Dev nD) (t : Fin cfg0.N) : iblk0 V c 1 t = V c main_arg1 := by
  funext y
  have h := idx0 t
  blk_ext [iblk0, h]
theorem iblk0_2 (c : Dev nD) (t : Fin cfg0.N) : iblk0 V c 2 t = V c main_arg2 := by
  funext y
  have h := idx0 t
  blk_ext [iblk0, h]
theorem iblk0_3 (c : Dev nD) (t : Fin cfg0.N) : iblk0 V c 3 t = V c main_arg3 := by
  funext y
  have h := idx0 t
  blk_ext [iblk0, h]

/-- The second call's whole blocks are its arrays, -/
theorem iblk1_2 (c : Dev nD) (t : Fin cfg1.N) : iblk1 V c 2 t = V c main_v0_0 := by
  funext y
  have h := idx1 t
  blk_ext [iblk1, h]
theorem iblk1_3 (c : Dev nD) (t : Fin cfg1.N) : iblk1 V c 3 t = V c main_v0_1 := by
  funext y
  have h := idx1 t
  blk_ext [iblk1, h]
/-- and its row blocks 256 rows of them. -/
theorem iblk1_0 (c : Dev nD) (t : Fin cfg1.N) (r : Fin 256) (k : Fin 128) (R : Fin 4096) (hR : R.val = t.val * 256 + r.val) :
    iblk1 V c 0 t (ix2 r k) = V c main_v0_0 (ix2 R k) := by
  have h := idx1 t
  blk_ext [iblk1, h]
theorem iblk1_1 (c : Dev nD) (t : Fin cfg1.N) (r : Fin 256) (k : Fin 128) (R : Fin 4096) (hR : R.val = t.val * 256 + r.val) :
    iblk1 V c 1 t (ix2 r k) = V c main_v0_1 (ix2 R k) := by
  have h := idx1 t
  blk_ext [iblk1, h]

end Blocks

/-- The first call's two results. -/
theorem emb1_eq (c : Dev nD) : (dat0 (V0 m ρ) c).arrAt 4 cfg0.N
    = k0_pay1 (m ((c : Thread nD τ).loc main_arg0)) (m ((c : Thread nD τ).loc main_arg2)) := by
  refine (dat0 (V0 m ρ) c).arrAt_eq_of_covers 4 _ (by decide +kernel) fun t hf y => ?_
  blk_simp
  rw [after0_4]
  unfold out0_4
  rw [View.canon_unit_zero zeros2, View.ld_unit_zero zeros2, View.ld_unit_zero zeros2, iblk0_0, iblk0_2]
  have h := idx0 t
  blk_ext [h]

theorem emb2_eq (c : Dev nD) : (dat0 (V0 m ρ) c).arrAt 5 cfg0.N
    = k0_pay2 (m ((c : Thread nD τ).loc main_arg1)) (m ((c : Thread nD τ).loc main_arg3)) := by
  refine (dat0 (V0 m ρ) c).arrAt_eq_of_covers 5 _ (by decide +kernel) fun t hf y => ?_
  blk_simp
  rw [after0_5]
  unfold out0_5
  rw [View.canon_unit_zero zeros2, View.ld_unit_zero zeros2, View.ld_unit_zero zeros2, iblk0_1, iblk0_3]
  have h := idx0 t
  blk_ext [h]

/-- The embeddings the second call reads. -/
abbrev left (c : Dev nD) : Fin 4096 → Fin 128 → EReal :=
  embed (fun r l => m ((c : Thread nD τ).loc main_arg0) (ix2 r l)) fun l k => m ((c : Thread nD τ).loc main_arg2) (ix2 l k)
abbrev right (c : Dev nD) : Fin 4096 → Fin 128 → EReal :=
  embed (fun r l => m ((c : Thread nD τ).loc main_arg1) (ix2 r l)) fun l k => m ((c : Thread nD τ).loc main_arg3) (ix2 l k)

theorem V1_left (c : Dev nD) (r : Fin 4096) (k : Fin 128) : V1 m ρ c main_v0_0 (ix2 r k) = left m c r k :=
  (congrFun ((W1_arr m ρ c 4).trans (emb1_eq m ρ c)) (ix2 r k)).trans (pay1_apply _ _ r k)
theorem V1_right (c : Dev nD) (r : Fin 4096) (k : Fin 128) : V1 m ρ c main_v0_1 (ix2 r k) = right m c r k :=
  (congrFun ((W1_arr m ρ c 5).trans (emb2_eq m ρ c)) (ix2 r k)).trans (pay2_apply _ _ r k)

/-- The result as one function of the arguments. -/
def result (c : Dev nD) : FVec Ideal S4096x4096 .f32 := fun i => scaled (sim (left m c) (right m c) (i 0)) (i 1)

/-- One row of one block's scores. -/
theorem scores_row (c : Dev nD) (t : Fin cfg1.N) (r : Fin 256) (R : Fin 4096) (hR : R.val = t.val * 256 + r.val) :
    row (scores (iblk1 (V1 m ρ) c 0 t) (iblk1 (V1 m ρ) c 1 t) (iblk1 (V1 m ρ) c 2 t) (iblk1 (V1 m ρ) c 3 t)) r
      = sim (left m c) (right m c) R := by
  funext j
  refine (scores_apply _ _ _ _ r j).trans ?_
  rw [iblk1_2, iblk1_3]
  unfold sim
  simp only [iblk1_0 (V1 m ρ) c t r _ R hR, iblk1_1 (V1 m ρ) c t r _ R hR]
  exact congrArg (fun x => max (Ideal.tanh (three * x)) 0) (congrArg₂ (fun x y : EReal => x - y)
    (Finset.sum_congr rfl fun k _ => congrArg₂ (fun x y : EReal => x * y) (V1_left m ρ c R k) (V1_right m ρ c j k))
    (Finset.sum_congr rfl fun k _ => congrArg₂ (fun x y : EReal => x * y) (V1_right m ρ c R k) (V1_left m ρ c j k)))

/-- One entry of one block. -/
theorem block_entry (c : Dev nD) (t : Fin cfg1.N) (r : Fin 256) (j : Fin 4096) (R : Fin 4096)
    (hR : R.val = t.val * 256 + r.val) :
    outBlock (scores (iblk1 (V1 m ρ) c 0 t) (iblk1 (V1 m ρ) c 1 t) (iblk1 (V1 m ρ) c 2 t) (iblk1 (V1 m ρ) c 3 t)) (ix2 r j)
      = scaled (sim (left m c) (right m c) R) j := by
  have e := scores_row m ρ c t r R hR
  refine (outBlock_apply _ r (fun k => ?_) j).trans (congrArg (fun a => scaled a j) e)
  rw [e]
  exact sim_nonneg _ _ _ _

theorem result_at (c : Dev nD) (r j : Fin 4096) : result m c (ix2 r j) = scaled (sim (left m c) (right m c) r) j := rfl

/-- The second call's array at its end. -/
theorem result_eq (c : Dev nD) : (dat1 (V1 m ρ) c).arrAt 4 cfg1.N = result m c := by
  refine (dat1 (V1 m ρ) c).arrAt_eq_of_covers 4 _ (by decide +kernel) fun t hf y => ?_
  blk_simp
  rw [after1_4]
  unfold out1_4
  rw [View.canon_unit_zero zeros2]
  have h := idx1 t
  have ht : t.val < 16 := t.isLt
  have hy : (y 0).val < 256 := (y 0).isLt
  have e : (win1_4.blk t).view.emb y = ix2 (⟨t.val * 256 + (y 0).val, by omega⟩ : Fin 4096) (y 1) := by
    blk_ext [h]
  rw [e]
  refine (congrArg _ (eq_ix2 y)).trans ?_
  exact block_entry m ρ c t (y 0) (y 1) _ rfl

end Cert.KernelIdeal.Rows

end
-- ==== Proof.RefValue.lean ====
/- The reference's result at an index: the row of similarities cut to its twenty greatest entries and scaled by their sum. -/
module

public import proofs.«01_k».proof.Proof.Gen.ReferenceIdeal.Run
public import proofs.«01_k».proof.Proof.Spec
public import Idealize.ShloMosaic.Lib.Pointwise
public import Idealize.ShloMosaic.Lib.ScatterToDense.RefScatter

@[expose] public section

set_option maxRecDepth 16384

noncomputable section

namespace Cert.ReferenceIdeal.Rows

open Cert.ReferenceIdeal Cert.ReferenceIdeal.Gen Idealize.ShloMosaic Idealize.ShloMosaic.TcCoe Cert.Ranking Cert.Spec

/-- The reference's embedding. -/
def emb (x : FVec Ideal S4096x128 .f32) (w : FVec Ideal S128x128 .f32) : FVec Ideal S4096x128 .f32 :=
  Host.tanh (mulf (broadcastInDim S4096x128 ![] bcast_S_S4096x128 (constant S_ .f32 0x40400000#32))
    (Host.dotGeneral dot_S4096x128_S128x128_S4096x128_1_0_0_1_n_n none x w))

/-- The reference's matrix of similarities. -/
def sims (p q : FVec Ideal S4096x128 .f32) : FVec Ideal S4096x4096 .f32 :=
  maximumf (Host.tanh (mulf (broadcastInDim S4096x4096 ![] bcast_S_S4096x4096 (constant S_ .f32 0x40400000#32))
      (subf (Host.dotGeneral dot_S4096x128_S128x4096_S4096x4096_1_0_0_1_n_n none p (transpose S128x4096 [1, 0] q transposes_S4096x128_S128x4096_1_0))
        (Host.dotGeneral dot_S4096x128_S128x4096_S4096x4096_1_0_0_1_n_n none q (transpose S128x4096 [1, 0] p transposes_S4096x128_S128x4096_1_0)))))
    (broadcastInDim S4096x4096 ![] bcast_S_S4096x4096 (constant S_ .f32 0x00000000#32))

/-- The positions of each row's twenty greatest entries. -/
def tops (A : FVec Ideal S4096x4096 .f32) : IVec S4096x20 32 :=
  (Host.topK S4096x20 1 (FloatOps.cmpfTotal .gt) A sliceFits_S4096x4096_S4096x20).2

/-- The rows' numbers, as a column. -/
def rowNumbers : IVec S4096x1 32 := broadcastInDim S4096x1 ![0] bcast_S4096_S4096x1_0 (iotaInDim S4096 32 0)

/-- Ones at the given positions of each row, zeros elsewhere. -/
def mask (t : IVec S4096x20 32) : FVec Ideal S4096x4096 .f32 :=
  Host.scatter scatter_S4096x4096_S4096x20x2_S4096x20_n_01_01_2 (fun _ b => b)
    (broadcastInDim S4096x4096 ![] bcast_S_S4096x4096 (constant S_ .f32 0x00000000#32))
    (concatenate S4096x20x2 2
      [⟨S4096x20x1, broadcastInDim S4096x20x1 ![0, 1] bcast_S4096x20_S4096x20x1_0_1 (broadcastInDim S4096x20 ![0, 1] bcast_S4096x1_S4096x20_0_1
          (select (cmpi .slt rowNumbers (broadcastInDim S4096x1 ![] bcast_S_S4096x1 (constantI S_ 32 0#32)))
            (addi rowNumbers (broadcastInDim S4096x1 ![] bcast_S_S4096x1 (constantI S_ 32 4096#32))) rowNumbers))⟩,
        ⟨S4096x20x1, broadcastInDim S4096x20x1 ![0, 1] bcast_S4096x20_S4096x20x1_0_1
          (select (cmpi .slt t (broadcastInDim S4096x20 ![] bcast_S_S4096x20 (constantI S_ 32 0#32)))
            (addi t (broadcastInDim S4096x20 ![] bcast_S_S4096x20 (constantI S_ 32 4096#32))) t)⟩]
      concatenates_S4096x20x1_S4096x20x1_S4096x20x2_d2)
    (broadcastInDim S4096x20 ![] bcast_S_S4096x20 (constant S_ .f32 0x3F800000#32))

/-- A matrix over its row sums. -/
def overSums (B : FVec Ideal S4096x4096 .f32) : FVec Ideal S4096x4096 .f32 :=
  Host.divf B (broadcastInDim S4096x4096 ![0, 1] bcast_S4096x1_S4096x4096_0_1
    (addf (broadcastInDim S4096x1 ![0] bcast_S4096_S4096x1_0 (Host.reduceAdd B (constant S_ .f32 0x00000000#32) reducesTo_S4096x4096_S4096_d1 h_S_))
      (broadcastInDim S4096x1 ![] bcast_S_S4096x1 (constant S_ .f32 0x358637BD#32))))

/-- The result's composed term, by these names. -/
theorem result_eq (m : (ℓ : Loc nD τ sig) → Buf (Elt Ideal) ℓ) (c : Dev nD) :
    Value.res_main_v42 (F := Ideal) m c
      = overSums (mulf (sims (emb (m ((c.tc : Thread nD τ).loc main_arg0)) (m ((c.tc : Thread nD τ).loc main_arg2)))
            (emb (m ((c.tc : Thread nD τ).loc main_arg1)) (m ((c.tc : Thread nD τ).loc main_arg3))))
          (mask (tops (sims (emb (m ((c.tc : Thread nD τ).loc main_arg0)) (m ((c.tc : Thread nD τ).loc main_arg2)))
            (emb (m ((c.tc : Thread nD τ).loc main_arg1)) (m ((c.tc : Thread nD τ).loc main_arg3))))))) := rfl

theorem emb_apply (x : FVec Ideal S4096x128 .f32) (w : FVec Ideal S128x128 .f32) (r : Fin 4096) (k : Fin 128) :
    emb x w (ix2 r k) = embed (fun r l => x (ix2 r l)) (fun l k => w (ix2 l k)) r k := by
  pointwise [emb, embed, three]

theorem sims_apply (p q : FVec Ideal S4096x128 .f32) (r j : Fin 4096) :
    sims p q (ix2 r j) = sim (fun r k => p (ix2 r k)) (fun r k => q (ix2 r k)) r j := by
  pointwise [sims, sim, three]

/-- Row `r`'s positions, in the order of the stable descending sort. -/
def topAt (A : FVec Ideal S4096x4096 .f32) (r : Fin 4096) (t : Fin 20) : Fin 4096 :=
  sortedFrom (fun i j : Fin 4096 => decide (A (ix2 r j) < A (ix2 r i))) (Fin.castLE (by decide) t)

theorem place_topAt (A : FVec Ideal S4096x4096 .f32) (r : Fin 4096) (t : Fin 20) :
    place (fun j => A (ix2 r j)) (topAt A r t) = t.val := place_sortedFrom (fun j => A (ix2 r j)) _

theorem update_ix2 (r j k : Fin 4096) : Shape.Idx.along (s := S4096x4096) (ix2 r j) 1 k = ix2 r k := by
  funext a
  match a with
  | ⟨0, _⟩ => rfl
  | ⟨1, _⟩ => rfl

/-- The first twenty columns of a matrix. -/
theorem slice_apply {α : Type} (v : S4096x4096.Idx → α) (r : Fin 4096) (t : Fin 20) :
    extractStridedSlice S4096x20 (fun _ => 0) v sliceFits_S4096x4096_S4096x20 (ix2 r t) = v (ix2 r (Fin.castLE (by decide) t)) := by
  pointwise
  rfl

/-- The sort by value, of a matrix's rows with the columns' numbers, at its second component. -/
theorem sort2_apply (A : FVec Ideal S4096x4096 .f32) (y : IVec S4096x4096 32) (r j : Fin 4096) :
    (Host.sort2 S4096x4096 1 (fun l r => FloatOps.cmpfTotal (F := Ideal) (φ := .f32) .gt l.1 r.1) A y).2 (ix2 r j)
      = y (ix2 r (sortedFrom (fun i j : Fin 4096 => decide (A (ix2 r j) < A (ix2 r i))) j)) := by
  have hcmp (x y : EReal) : (FloatOps.cmpfTotal (F := Ideal) (φ := .f32) .gt x y == 1#1) = decide (y < x) := by
    show (BitVec.ofBool (decide (y < x)) == 1#1) = decide (y < x)
    cases decide (y < x) <;> rfl
  unfold Host.sort2
  rw [dif_pos (by decide)]
  refine (congrArg y (update_ix2 r j _)).trans (congrArg (fun f => y (ix2 r (sortedFrom f j))) (funext fun i => funext fun k => ?_))
  exact (congrArg₂ (fun i k => (FloatOps.cmpfTotal (F := Ideal) (φ := .f32) .gt (A i) (A k) == 1#1)) (update_ix2 r j i) (update_ix2 r j k)).trans (hcmp _ _)

theorem tops_apply (A : FVec Ideal S4096x4096 .f32) (r : Fin 4096) (t : Fin 20) :
    tops A (ix2 r t) = BitVec.ofNat 32 (topAt A r t).val := by
  unfold tops Host.topK
  refine (slice_apply (Host.sort2 S4096x4096 1 (fun l r => FloatOps.cmpfTotal (F := Ideal) (φ := .f32) .gt l.1 r.1) A
    (fun i => if hd : 1 < S4096x4096.rank then iotaInDim S4096x4096 32 ⟨1, hd⟩ i else 0#32)).2 r t).trans ?_
  rw [sort2_apply, dif_pos (by decide)]
  rfl

open Classical in
/-- Setting the same value at several places leaves it at each of them. -/
theorem set_const {α : Type} (word : ℕ → BitVec 32) (v fill : α) (col n : ℕ) :
    ScatterToDense.GS word (fun _ => v) fill col n = if ∃ k, k < n ∧ col = (word k).toNat then v else fill := by
  induction n with
  | zero => rw [ScatterToDense.GS_zero, if_neg (by omega)]
  | succ n ih =>
    by_cases h : col = (word n).toNat
    · rw [ScatterToDense.GS_succ_hit h, if_pos ⟨n, by omega, h⟩]
    · rw [ScatterToDense.GS_succ_miss h, ih]
      refine if_congr ⟨fun ⟨k, hk, e⟩ => ⟨k, by omega, e⟩, fun ⟨k, hk, e⟩ => ⟨k, ?_, e⟩⟩ rfl rfl
      have : k ≠ n := fun e' => h (e' ▸ e)
      omega

/-- The mask is one at the entries of the twenty first places. -/
theorem mask_apply (A : FVec Ideal S4096x4096 .f32) (r j : Fin 4096) :
    mask (tops A) (ix2 r j) = if place (fun j => A (ix2 r j)) j < 20 then (1 : EReal) else 0 := by
  classical
  unfold mask
  refine (ScatterToDense.scatter_eq_GS _ rfl rfl rfl (by decide) (by decide) _ _ _
    (fun r t => if h : t < 20 then BitVec.ofNat 32 (topAt A r ⟨t, h⟩).val else 0#32) (fun _ _ => (1 : EReal))
    (fun i k => ?_) (fun i k => ?_) (fun i k => ?_) r j).trans ?_
  · pointwise [rowNumbers]
    exact Routing.wrap_of_lt _ _ (by
      rw [BitVec.toNat_ofNat]
      exact Nat.lt_of_le_of_lt (Nat.mod_le _ _) (by have := i.isLt; show i.val < 2 ^ 31; omega))
  · pointwise
    show Scalar.select (IntOp.cmpi .slt (tops A (ix2 i k)) 0#32) (IntOp.addi (tops A (ix2 i k)) 4096#32) (tops A (ix2 i k)) = BitVec.ofNat 32 (topAt A i k).val
    rw [tops_apply]
    exact Routing.wrap_of_lt _ _ (by
      rw [BitVec.toNat_ofNat]
      exact Nat.lt_of_le_of_lt (Nat.mod_le _ _) (by have := (topAt A i k).isLt; show (topAt A i k).val < 2 ^ 31; omega))
  · pointwise
  · have hf : broadcastInDim S4096x4096 ![] bcast_S_S4096x4096 (constant (F := Ideal) S_ .f32 0x00000000#32) (ValueIdx.ix2 r j) = (0 : EReal) := by
      pointwise
    rw [set_const, hf]
    refine if_congr ⟨?_, fun h => ⟨_, h, ?_⟩⟩ rfl rfl
    · rintro ⟨k, hk, e⟩
      rw [dif_pos hk, BitVec.toNat_ofNat, Nat.mod_eq_of_lt (by have := (topAt A r ⟨k, hk⟩).isLt; omega)] at e
      rw [Fin.ext e, place_topAt]
      exact hk
    · rw [dif_pos h, BitVec.toNat_ofNat, Nat.mod_eq_of_lt (by have := (topAt A r ⟨_, h⟩).isLt; omega)]
      exact congrArg Fin.val (place_injective _ (place_topAt A r ⟨_, h⟩).symm)

theorem overSums_apply (B : FVec Ideal S4096x4096 .f32) (r j : Fin 4096) :
    overSums B (ix2 r j) = Ideal.div (B (ix2 r j)) ((∑ i : Fin 4096, B (ix2 r i)) + eps) := by
  pointwise [overSums, eps]

/-- The reference's result at row `r` and column `j`. -/
theorem result_apply (m : (ℓ : Loc nD τ sig) → Buf (Elt Ideal) ℓ) (c : Dev nD) (r j : Fin 4096)
    (e₁ e₂ : FVec Ideal S4096x128 .f32) (w₁ w₂ : FVec Ideal S128x128 .f32)
    (he₁ : m ((c.tc : Thread nD τ).loc main_arg0) = e₁) (he₂ : m ((c.tc : Thread nD τ).loc main_arg1) = e₂)
    (hw₁ : m ((c.tc : Thread nD τ).loc main_arg2) = w₁) (hw₂ : m ((c.tc : Thread nD τ).loc main_arg3) = w₂) :
    Value.res_main_v42 (F := Ideal) m c (ix2 r j)
      = scaled (sim (embed (fun r l => e₁ (ix2 r l)) fun l k => w₁ (ix2 l k)) (embed (fun r l => e₂ (ix2 r l)) fun l k => w₂ (ix2 l k)) r) j := by
  have hA (r j : Fin 4096) : sims (emb e₁ w₁) (emb e₂ w₂) (ix2 r j)
      = sim (embed (fun r l => e₁ (ix2 r l)) fun l k => w₁ (ix2 l k)) (embed (fun r l => e₂ (ix2 r l)) fun l k => w₂ (ix2 l k)) r j := by
    rw [sims_apply]
    simp only [emb_apply]
  have hB (j : Fin 4096) : mulf (sims (emb e₁ w₁) (emb e₂ w₂)) (mask (tops (sims (emb e₁ w₁) (emb e₂ w₂)))) (ix2 r j)
      = kept (sim (embed (fun r l => e₁ (ix2 r l)) fun l k => w₁ (ix2 l k)) (embed (fun r l => e₂ (ix2 r l)) fun l k => w₂ (ix2 l k)) r) j := by
    show sims (emb e₁ w₁) (emb e₂ w₂) (ix2 r j) * mask (tops (sims (emb e₁ w₁) (emb e₂ w₂))) (ix2 r j) = _
    rw [mask_apply]
    simp only [hA]
    unfold kept
    split
    · rw [mul_one]
    · rw [mul_zero]
  rw [result_eq, he₁, he₂, hw₁, hw₂, overSums_apply]
  simp only [hB]
  rfl

end Cert.ReferenceIdeal.Rows

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRun
public import proofs.«01_k».proof.Proof.IdealRun
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic Idealize.SL.Sem

/-- `Cert.quiescent_Kernel`: the kernel's run at words, keeping the arguments and the counters. -/
theorem frame_kernel : Cert.quiescent_Kernel (hKernel := Cert.Kernel.Gen.facts) := fun m ρ _ =>
  (θ_run Cert.Kernel.defs _ _).mono (fun _ h => ⟨fun c => ⟨(h.1 c).1, (h.1 c).2.1, (h.1 c).2.2.1, (h.1 c).2.2.2.1⟩, h.2⟩)
    (Cert.Kernel.Run.ran (F := Bits) m ρ)

/-- `Cert.quiescent_KernelIdeal`: the same run at the extended reals. -/
theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1, (h.1 c).2.2.2.1⟩, h.2⟩)
    (Cert.KernelIdeal.Run.ran (F := Ideal) m ρ)

/-- `Cert.quiescent_ReferenceIdeal`: the reference's run at its arguments. It declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's result at arguments that agree with the kernel's. -/
theorem reference_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h₀ : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h₁ : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h₂ : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h₃ : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Value.res_main_v42 (F := Ideal) m' c = Cert.KernelIdeal.Rows.result m c := by
  funext i
  rw [eq_ix2 i]
  exact (Cert.ReferenceIdeal.Rows.result_apply m' c (i 0) (i 1) _ _ _ _ h₀ h₁ h₂ h₃).trans
    (Cert.KernelIdeal.Rows.result_at m c (i 0) (i 1)).symm

/-- `Cert.algebraic_KernelIdeal_ReferenceIdeal`: both runs leave every row's similarities, cut to their twenty greatest and
    scaled by their sum. -/
theorem algebraic : Cert.algebraic_KernelIdeal_ReferenceIdeal (hKernelIdeal := Cert.KernelIdeal.Gen.facts)
    (hReferenceIdeal := Cert.ReferenceIdeal.Gen.facts) := by
  intro m ρ m' ρ' _ agree
  refine ⟨fun c => Cert.KernelIdeal.Rows.result m c, ?_, ?_⟩
  · exact (θ_run Cert.KernelIdeal.defs _ _).mono
      (fun _ h c => ⟨(h.1 c).2.2.2.2.trans (Cert.KernelIdeal.Rows.result_eq m ρ c), (h.1 c).1, (h.1 c).2.1, (h.1 c).2.2.1,
        (h.1 c).2.2.2.1⟩)
      (Cert.KernelIdeal.Run.ran (F := Ideal) m ρ)
  · exact (θ_run Cert.ReferenceIdeal.defs _ _).mono
      (fun _ h c => ⟨(h c).1.trans (reference_result m m' c (agree c).1 (agree c).2.1 (agree c).2.2.1 (agree c).2.2.2),
        (h c).2⟩)
      (Cert.ReferenceIdeal.Value.run (F := Ideal) m' ρ')

/-- The claims of the certificate. -/
theorem claim : Cert.Claim := ⟨Cert.Kernel.Gen.facts, Cert.KernelIdeal.Gen.facts, Cert.ReferenceIdeal.Gen.facts,
  frame_kernel, frame_ideal, frame_reference, trivial, algebraic⟩

end Cert.Proof

end
